-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S5x5 : Shape := ⟨2, ![5, 5]⟩
abbrev S5 : Shape := ⟨1, ![5]⟩
abbrev S5x20 : Shape := ⟨2, ![5, 20]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel

variable [Facts]

def fn {F : FTy → Type} [FloatOps F] (main_arg0 : FVec F S5x5 .f32) (main_arg1 : IVec S5 32) (main_arg2 : FVec F S5x5 .f32) (main_arg3 : FVec F S5 .f32) (main_arg4 : FVec F S5x20 .f32) : IVec S_ 1 :=
  let main_c : IVec S_ 32 := constantI S_ 32 0#32
  let main_v0 : IVec S5 32 := broadcastInDim S5 ![] bcast_S_S5 main_c
  let main_v1 : IVec S5 1 := cmpi .sge main_arg1 main_v0
  let main_c_0 : IVec S_ 1 := constantI S_ 1 1#1
  let main_v2 : IVec S_ 1 := (fun x v => Host.reduce IntOp.andi x v reducesTo_S5_S_d0 h_S_) main_v1 main_c_0
  main_v2
-- ==== Kernel.lean ====
abbrev S5x5 : Shape := ⟨2, ![5, 5]⟩
abbrev S5 : Shape := ⟨1, ![5]⟩
abbrev S5x20 : Shape := ⟨2, ![5, 20]⟩
abbrev S25 : Shape := ⟨1, ![25]⟩
abbrev S100 : Shape := ⟨1, ![100]⟩
abbrev S40 : Shape := ⟨1, ![40]⟩
abbrev S16 : Shape := ⟨1, ![16]⟩
abbrev S104 : Shape := ⟨1, ![104]⟩
abbrev S_ : Shape := ⟨0, ![]⟩
abbrev S1 : Shape := ⟨1, ![1]⟩

abbrev nBuf : Table → Nat
  | .hbm => 10
  | .local .scVector .vmem => 6
  | _ => 0

abbrev bufTy : (tb : Table) → Fin (nBuf tb) → BufTy
  | .hbm, ⟨0, _⟩ => ⟨S5x5, .f32⟩
  | .hbm, ⟨1, _⟩ => ⟨S5, .i32⟩
  | .hbm, ⟨2, _⟩ => ⟨S5x5, .f32⟩
  | .hbm, ⟨3, _⟩ => ⟨S5, .f32⟩
  | .hbm, ⟨4, _⟩ => ⟨S5x20, .f32⟩
  | .hbm, ⟨5, _⟩ => ⟨S25, .f32⟩
  | .hbm, ⟨6, _⟩ => ⟨S25, .f32⟩
  | .hbm, ⟨7, _⟩ => ⟨S100, .f32⟩
  | .hbm, ⟨8, _⟩ => ⟨S100, .f32⟩
  | .hbm, ⟨9, _⟩ => ⟨S5x20, .f32⟩
  | .local .scVector .vmem, ⟨0, _⟩ => ⟨S40, .f32⟩
  | .local .scVector .vmem, ⟨1, _⟩ => ⟨S40, .f32⟩
  | .local .scVector .vmem, ⟨2, _⟩ => ⟨S16, .f32⟩
  | .local .scVector .vmem, ⟨3, _⟩ => ⟨S16, .i32⟩
  | .local .scVector .vmem, ⟨4, _⟩ => ⟨S104, .f32⟩
  | .local .scVector .vmem, ⟨5, _⟩ => ⟨S104, .f32⟩
  | _, _ => ⟨S5x5, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v0_scv : Ref sig .scVector := ⟨.hbm, 5, rfl⟩
abbrev main_v1_scv : Ref sig .scVector := ⟨.hbm, 6, rfl⟩
abbrev main_arg3_scv : Ref sig .scVector := ⟨.hbm, 3, rfl⟩
abbrev main_arg1_scv : Ref sig .scVector := ⟨.hbm, 1, rfl⟩
abbrev main_v2_scv : Ref sig .scVector := ⟨.hbm, 7, rfl⟩
abbrev main_v3_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5x5 : Shape := ⟨2, ![5, 5]⟩
abbrev S5 : Shape := ⟨1, ![5]⟩
abbrev S5x20 : Shape := ⟨2, ![5, 20]⟩
abbrev S1x5 : Shape := ⟨2, ![1, 5]⟩
abbrev S_ : Shape := ⟨0, ![]⟩
abbrev S5x1 : Shape := ⟨2, ![5, 1]⟩

abbrev nBuf : Space → Nat
  | .hbm => 19
  | .vmem => 0
  | .smem => 0
  | _ => 0

abbrev bufTy : (tb : Table) → Fin (tcTables nBuf tb) → BufTy
  | .hbm, ⟨0, _⟩ => ⟨S5x5, .f32⟩
  | .hbm, ⟨1, _⟩ => ⟨S5, .i32⟩
  | .hbm, ⟨2, _⟩ => ⟨S5x5, .f32⟩
  | .hbm, ⟨3, _⟩ => ⟨S5, .f32⟩
  | .hbm, ⟨4, _⟩ => ⟨S5x20, .f32⟩
  | .hbm, ⟨5, _⟩ => ⟨S5x5, .f32⟩
  | .hbm, ⟨6, _⟩ => ⟨S5x5, .f32⟩
  | .hbm, ⟨7, _⟩ => ⟨S1x5, .f32⟩
  | .hbm, ⟨8, _⟩ => ⟨S5x5, .f32⟩
  | .hbm, ⟨9, _⟩ => ⟨S5x5, .f32⟩
  | .hbm, ⟨10, _⟩ => ⟨S_, .i32⟩
  | .hbm, ⟨11, _⟩ => ⟨S5, .i32⟩
  | .hbm, ⟨12, _⟩ => ⟨S5, .i1⟩
  | .hbm, ⟨13, _⟩ => ⟨S_, .i32⟩
  | .hbm, ⟨14, _⟩ => ⟨S5, .i32⟩
  | .hbm, ⟨15, _⟩ => ⟨S5, .i32⟩
  | .hbm, ⟨16, _⟩ => ⟨S5, .i32⟩
  | .hbm, ⟨17, _⟩ => ⟨S5x1, .i32⟩
  | .hbm, ⟨18, _⟩ => ⟨S5x20, .f32⟩
  | _, _ => ⟨S5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Setup.lean ====
/-
  The set-up of the kernel's run: the program as the SparseCore launch theorem sees it, the memory's names,
  the value the kernel computes, and what the handshakes of the one call carry. Everything is over any float
  values `F`: the run is written once and read at the machine's floats and at the ideal ones.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's configuration is well formed: its semaphores are distinct and unscoped, no task-shared buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call -/

/-- The kernel's operands on device `d`: x, W, b, the indices, the dense array, and the result, each flat. -/
abbrev xLoc (d : Dev nD) : Loc nD τ sig := (SparseCore.T d).loc main_v0
abbrev wLoc (d : Dev nD) : Loc nD τ sig := (SparseCore.T d).loc main_v1
abbrev bLoc (d : Dev nD) : Loc nD τ sig := (SparseCore.T d).loc main_arg3
abbrev iLoc (d : Dev nD) : Loc nD τ sig := (SparseCore.T d).loc main_arg1
abbrev oLoc (d : Dev nD) : Loc nD τ sig := (SparseCore.T d).loc main_v2
abbrev zLoc (d : Dev nD) : Loc nD τ sig := (SparseCore.T d).loc main_v3

/-! ## The value -/

/-- The index `k` of a flat array of `n` words. -/
def ln {n : ℕ} (k : Fin n) : (⟨1, ![n]⟩ : Shape).Idx := fun a => ⟨k.val, by obtain rfl : a = 0 := Subsingleton.elim (α := Fin 1) a 0; exact k.isLt⟩
/-- Entry `k` of a flat array of `n` words. -/
abbrev at1 {n : ℕ} {α : Type} (f : (⟨1, ![n]⟩ : Shape).Idx → α) (k : Fin n) : α := f (ln k)

/-- Two indices of a flat array with the same number are the same index. -/
theorem idx1_ext {n : ℕ} {x y : (⟨1, ![n]⟩ : Shape).Idx} (h : (x 0).val = (y 0).val) : x = y :=
  funext fun a => by obtain rfl : a = 0 := Subsingleton.elim (α := Fin 1) a 0; exact Fin.ext h
/-- Every index of a flat array is the index of its number. -/
theorem eq_ln {n : ℕ} (x : (⟨1, ![n]⟩ : Shape).Idx) (k : Fin n) (h : (x 0).val = k.val) : x = ln k := idx1_ext h

section Value
variable [FloatOps F]

/-- Entry `(i, j)` of the linear layer, in the order the kernel adds it: the bias first, then the five products. -/
def lin (x w : S25.Idx → F .f32) (b : S5.Idx → F .f32) (i j : Fin 5) : F .f32 :=
  let t (k : Fin 5) : F .f32 := FloatOps.mulf (at1 x ⟨5 * i.val + k.val, by omega⟩) (at1 w ⟨5 * j.val + k.val, by omega⟩)
  FloatOps.addf (FloatOps.addf (FloatOps.addf (FloatOps.addf (FloatOps.addf (at1 b j) (t 0)) (t 1)) (t 2)) (t 3)) (t 4)

/-- One word of the result, at column `c` of a row whose linear outputs are `y`: of the indices equal to `c` the last
    one's output, the array's own word `z` if there is none. -/
def place (idx : S5.Idx → BitVec 32) (y : Fin 5 → F .f32) (c : BitVec 32) (z : F .f32) : F .f32 :=
  let s (j : Fin 5) (r : F .f32) : F .f32 := Scalar.select (IntOp.cmpi .eq c (at1 idx j)) (y j) r
  s 4 (s 3 (s 2 (s 1 (s 0 z))))

/-- The kernel's flat result: position `20 i + c` is row `i`, column `c`. -/
def zval (x w : S25.Idx → F .f32) (b : S5.Idx → F .f32) (idx : S5.Idx → BitVec 32) (o : S100.Idx → F .f32) : S100.Idx → F .f32 :=
  fun p => place idx (lin x w b ⟨(p 0).val / 20, by have := (p 0).isLt; simp at this; omega⟩) (BitVec.ofNat 32 ((p 0).val % 20)) (o p)

end Value

/-! ## What the handshakes carry -/

variable [FloatOps F]

/-- The contents of the kernel's five inputs. -/
structure Ins (F : FTy → Type) where
  x : S25.Idx → F .f32
  w : S25.Idx → F .f32
  b : S5.Idx → F .f32
  i : S5.Idx → BitVec 32
  o : S100.Idx → F .f32

/-- The result over inputs `I`. -/
abbrev Ins.z (I : Ins F) : S100.Idx → F .f32 := zval I.x I.w I.b I.i I.o

/-- The five inputs of device `d`, whole, at the contents `I`. -/
def insPts (d : Dev nD) (I : Ins F) : sProp 𝕄 :=
  iprop((xLoc d ↦{fullShare} (I.x : Buf (Elt F) (xLoc d))) ∗ (wLoc d ↦{fullShare} (I.w : Buf (Elt F) (wLoc d)))
    ∗ (bLoc d ↦{fullShare} (I.b : Buf (Elt F) (bLoc d))) ∗ (iLoc d ↦{fullShare} (I.i : Buf (Elt F) (iLoc d)))
    ∗ oLoc d ↦{fullShare} (I.o : Buf (Elt F) (oLoc d)))

/-- What the working tile takes: the inputs and the result's array at whatever it holds. -/
def takes (d : Dev nD) (I : Ins F) : sProp 𝕄 := iprop(insPts d I ∗ ∃ f : Buf (Elt F) (zLoc d), zLoc d ↦{fullShare} f)
/-- What it brings back: the inputs as they were and the result's array at the value. -/
def brings (d : Dev nD) (I : Ins F) : sProp 𝕄 := iprop(insPts d I ∗ zLoc d ↦{fullShare} (I.z : Buf (Elt F) (zLoc d)))

instance takes_storable (d : Dev nD) (I : Ins F) : BI.Storable (upEmb : UEmb _ 𝕄) (takes d I) := by unfold takes insPts; infer_instance
instance brings_storable (d : Dev nD) (I : Ins F) : BI.Storable (upEmb : UEmb _ 𝕄) (brings d I) := by unfold brings insPts; infer_instance

/-- The first of the tiles has it all, the others nothing. -/
def onFirst {n : ℕ} (A : sProp 𝕄) (i : Fin n) : sProp 𝕄 := if i.val = 0 then A else iprop(emp)
instance onFirst_storable {n : ℕ} (A : sProp 𝕄) [BI.Storable (upEmb : UEmb _ 𝕄) A] (i : Fin n) :
    BI.Storable (upEmb : UEmb _ 𝕄) (onFirst A i) := by unfold onFirst; split <;> infer_instance

/-- The one call takes the inputs and the result's array and brings them back, the result at its value; the first of the
    sixteen tiles gets everything. `I d` are device `d`'s inputs at the call. -/
def P (I : Dev nD → Ins F) : (K (F := F)).Pay (nD := nD) (Val := Elt F) (Name := ℕ) (U := UU) where
  st := fun q d _ => match q with | 0 => takes d (I d)
  dn := fun q d _ => match q with | 0 => brings d (I d)
  go := fun q d _ i => match q with | 0 => onFirst (takes d (I d)) i
  td := fun q d _ i => match q with | 0 => onFirst (brings d (I d)) i
  x := fun _ _ => iprop(emp)

instance P_storable (I : Dev nD → Ins F) : (P I).IsStorable where
  st q d _ := match q with | 0 => takes_storable d (I d)
  dn q d _ := match q with | 0 => brings_storable d (I d)
  go q d _ i := match q with | 0 => onFirst_storable (takes d (I d)) i
  td q d _ i := match q with | 0 => onFirst_storable (brings d (I d)) i

end Cert.Proof.Sc

end
-- ==== Proof.Value.lean ====
/-
  The value of the kernel's vectors, lane by lane: what a lane of a load holds, what a lane taken out is, and
  what the flat result is at row `i`, column `c`.
-/
module

public import proofs.«01_k».proof.Proof.Setup
public import Idealize.ShloMosaic.Lib.Writes
public import Idealize.ShloMosaic.Lib.Pipeline.Value

@[expose] public section

noncomputable section

namespace Cert.Proof.Sc

open Cert.KernelIdeal Cert.KernelIdeal.Gen
open Idealize.ShloMosaic

variable {F : FTy → Type}

/-- The number of the index `k` is `k`. -/
theorem ln_val {n : ℕ} (k : Fin n) : ((ln k) 0).val = k.val := rfl

/-- One lane cut out of a vector and taken as a scalar is that lane. -/
theorem extract1 {α : Type} (k : ℕ) (v : S16.Idx → α) (h : S16.Slices ![k] S1) (h' : ∀ a, (![0] : Fin 1 → ℕ) a < S1.size a) :
    extractAt ![0] (extractStridedSlice S1 ![k] v h) h' = v (ln ⟨k, by have := h.2 0; simp at this; omega⟩) := by
  unfold extractAt extractStridedSlice
  congr 1
  refine eq_ln _ _ ?_
  simp

/-- Lane `l` of the lane numbers is `l`. -/
theorem iota_lane (a : List (Fin S16.rank)) (h) (l : Fin 16) (ha : a.length = 1) : iota .scVector S16 32 a h (ln l) = BitVec.ofNat 32 l.val := by
  obtain ⟨a, rfl⟩ := List.length_eq_one_iff.mp ha
  obtain rfl : a = 0 := Subsingleton.elim (α := Fin 1) a 0
  simp [iota, ln]

/-! Lane by lane, an elementwise operation is its scalar operation and a broadcast its one value. -/
theorem select_lane {α : Type} (c : IVec S16 1) (a b : S16.Idx → α) (i : S16.Idx) : select c a b i = Scalar.select (c i) (a i) (b i) := rfl
theorem cmpi_lane (a b : IVec S16 32) (i : S16.Idx) : cmpi .eq a b i = IntOp.cmpi .eq (a i) (b i) := rfl
theorem addi_lane (a b : IVec S16 32) (i : S16.Idx) : addi a b i = a i + b i := rfl
theorem broadcast_lane {α : Type} (x : α) (i : S16.Idx) : broadcast S16 x i = x := rfl
theorem addf_lane [FloatOps F] (a b : FVec F S16 .f32) (i : S16.Idx) : addf a b i = FloatOps.addf (a i) (b i) := rfl
theorem mulf_lane [FloatOps F] (a b : FVec F S16 .f32) (i : S16.Idx) : mulf a b i = FloatOps.mulf (a i) (b i) := rfl

/-- A select on the equality of two given lane numbers takes the first value where they are equal. -/
theorem select_lit {α : Type} (a b : ℕ) (x y : α) :
    Scalar.select (IntOp.cmpi .eq (BitVec.ofNat 32 a) (BitVec.ofNat 32 b)) x y = if a % 2 ^ 32 = b % 2 ^ 32 then x else y := by
  unfold Scalar.select IntOp.cmpi
  by_cases h : a % 2 ^ 32 = b % 2 ^ 32
  · rw [if_pos h, show BitVec.ofNat 32 a = BitVec.ofNat 32 b from BitVec.eq_of_toNat_eq (by simpa using h)]; simp
  · have : BitVec.ofNat 32 a ≠ BitVec.ofNat 32 b := fun e => h (by simpa using congrArg BitVec.toNat e)
    rw [if_neg h, beq_eq_false_iff_ne.mpr this]; rfl

/-- Lane number `l` plus four is the number `l + 4`. -/
theorem col_four (l : ℕ) : BitVec.ofNat 32 l + 4#32 = BitVec.ofNat 32 (l + 4) := by simp [BitVec.ofNat_add]

/-- A vector loaded at word `off` of a scratch array whose first `m` words a copy has filled: a lane within those
    words is the copied word. -/
theorem load_of_copy {sig : RefSig} {κ : Kind} {sp : Space} {e : EltTy} {n m k off : ℕ} (v : View sig κ sp ⟨1, ![n]⟩ e) (f : v.ty.Contents (Elt F))
    (inb : ∀ a, (![0] : Fin 1 → ℕ) a + (![m] : Fin 1 → ℕ) a ≤ (![n] : Fin 1 → ℕ) a)
    (inb' : ∀ a, (![off] : Fin 1 → ℕ) a + (![k] : Fin 1 → ℕ) a ≤ (![n] : Fin 1 → ℕ) a)
    (w : (⟨1, ![m]⟩ : Shape).Idx → Elt F e) (l : Fin k) (h : off + l.val < m) :
    View.readAt (Elt F) v (Rect.unit (s := ⟨1, ![n]⟩) ![off] ![k] inb').toLoadRect (v.writes (Elt F) f [⟨Rect.unit (s := ⟨1, ![n]⟩) ![0] ![m] inb, w⟩]) (ln l)
      = w (ln ⟨off + l.val, h⟩) := by
  rw [View.readAt_apply]
  have e : (Rect.unit (s := ⟨1, ![n]⟩) ![off] ![k] inb').toLoadRect.idx (ln l)
      = (Rect.unit (s := ⟨1, ![n]⟩) ![0] ![m] inb).emb (ln ⟨off + l.val, h⟩) := by
    refine idx1_ext ?_
    simp [ln]
  rw [e]
  exact View.read_slice_write_emb _ _ _ (Finset.mem_univ _)

section
variable [FloatOps F]

/-- The flat result at row `i`, column `c`. -/
theorem z_row (I : Ins F) (i : Fin 5) (c : ℕ) (hc : c < 20) (p : S100.Idx) (hp : (p 0).val = 20 * i.val + c) :
    I.z p = place I.i (lin I.x I.w I.b i) (BitVec.ofNat 32 c) (I.o p) := by
  unfold Ins.z zval
  have h1 : (p 0).val / 20 = i.val := by omega
  have h2 : (p 0).val % 20 = c := by omega
  simp only [h1, h2, Fin.eta]
end

end Cert.Proof.Sc

end
-- ==== Proof.Tile.lean ====
/-
  The kernel's body on one vector subcore: the first tile copies the five inputs in, computes, and copies the
  result out; every other tile does nothing.
-/
module

public import proofs.«01_k».proof.Proof.Value

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The subcore's own buffers and semaphores -/

section Tile

variable (d : Dev nD) (L : grid0.Coords)

abbrev cV (L : grid0.Coords) : Fin τ.nSC := (L 0).castLE hcore0
abbrev jV (L : grid0.Coords) : Fin τ.nSub := (L 1).castLE hsub0
/-- The thread of the tile at `L`. -/
abbrev VT (d : Dev nD) (L : grid0.Coords) : Thread nD τ := V d (cV L) (jV L)
abbrev cell (d : Dev nD) (L : grid0.Coords) (s : DmaSems sig S_) : GSem nD τ sig := (VT d L, .dma s.sem)

theorem cell_mem (s : DmaSems sig S_) (h : (SemLoc.dma s.sem : SemLoc sig).isScoped .scVector = true) : cell d L s ∈ ownCells (VT d L) :=
  mem_ownCells.mpr ⟨rfl, h⟩
theorem cell_ne {s s' : DmaSems sig S_} (h : (SemLoc.dma s.sem : SemLoc sig) ≠ SemLoc.dma s'.sem) : cell d L s ≠ cell d L s' :=
  fun e => h (Prod.mk.inj e).2

theorem ownSems0_V :
    ∃ R : sProp 𝕄, (ownSems0 (VT d L) : sProp 𝕄)
      = iprop(semVal (cell d L cc0_scratch6) 0 ∗ semVal (cell d L cc0_scratch7) 0 ∗ semVal (cell d L cc0_scratch8) 0
          ∗ semVal (cell d L cc0_scoped0) 0 ∗ R) := by
  unfold SparseCore.Cfg.ownSems0
  rw [SparseCore.bigSep_erase' (cell_mem d L cc0_scratch6 (by decide)),
    SparseCore.bigSep_erase' (Finset.mem_erase.mpr ⟨cell_ne d L (by decide), cell_mem d L cc0_scratch7 (by decide)⟩),
    SparseCore.bigSep_erase' (Finset.mem_erase.mpr ⟨cell_ne d L (by decide), Finset.mem_erase.mpr ⟨cell_ne d L (by decide),
      cell_mem d L cc0_scratch8 (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped0 (by decide)⟩⟩⟩)]
  exact ⟨_, rfl⟩

/-- The scratch buffer `r` of the tile at `L`, at whatever it holds. -/
abbrev scr (d : Dev nD) (L : grid0.Coords) (r : Ref sig .scVector) : sProp 𝕄 :=
  iprop(∃ f : Buf (Elt F) ((VT d L).loc r), (VT d L).loc r ↦{fullShare} f)

theorem ref_ne {r r' : Ref sig .scVector} (h : r ≠ r') :
    (Proc.scVector (cV L) (jV L)).devRef r ≠ (Proc.scVector (τ := τ) (cV L) (jV L)).devRef r' :=
  fun e => h (Proc.devRef_injective _ e)

theorem ownBufs_V :
    ∃ R : sProp 𝕄, (ownBufs (VT d L) : sProp 𝕄)
      = iprop(scr (F := F) d L cc0_scratch0 ∗ scr (F := F) d L cc0_scratch1 ∗ scr (F := F) d L cc0_scratch2 ∗ scr (F := F) d L cc0_scratch3
          ∗ scr (F := F) d L cc0_scratch4 ∗ scr (F := F) d L cc0_scratch5 ∗ R) := by
  have own (r : Ref sig .scVector) (h : ((Proc.scVector (τ := τ) (cV L) (jV L)).devRef r).owner = .proc (Proc.scVector (cV L) (jV L))) :
      (Proc.scVector (cV L) (jV L)).devRef r ∈ ownRefs (τ := τ) (.scVector (cV L) (jV L)) := SparseCore.Cfg.mem_ownRefs_of_owner h
  unfold SparseCore.Cfg.ownBufs
  rw [SparseCore.bigSep_erase' (own cc0_scratch0 rfl), SparseCore.bigSep_erase' (Finset.mem_erase.mpr ⟨ref_ne L (by decide), own cc0_scratch1 rfl⟩),
    SparseCore.bigSep_erase' (Finset.mem_erase.mpr ⟨ref_ne L (by decide), Finset.mem_erase.mpr ⟨ref_ne L (by decide), own cc0_scratch2 rfl⟩⟩),
    SparseCore.bigSep_erase' (Finset.mem_erase.mpr ⟨ref_ne L (by decide), Finset.mem_erase.mpr ⟨ref_ne L (by decide),
      Finset.mem_erase.mpr ⟨ref_ne L (by decide), own cc0_scratch3 rfl⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), own cc0_scratch4 rfl⟩⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), Finset.mem_erase.mpr ⟨ref_ne L (by decide), own cc0_scratch5 rfl⟩⟩⟩⟩⟩)]
  exact ⟨_, rfl⟩

variable [FloatOps F]

/-- The kernel's body on the tile at `L`, over the call's arrays and the tile's scratch. -/
abbrev body (L : grid0.Coords) : Prog (TpuEff nD τ sig (Elt F) Λ₀ (.scVector (cV L) (jV L))) PUnit :=
  cc0__sc_kernel L (Memref.whole main_v0_scv) (Memref.isWhole_whole _) (Memref.whole main_v1_scv) (Memref.isWhole_whole _)
    (Memref.whole main_arg3_scv) (Memref.isWhole_whole _) (Memref.whole main_arg1_scv) (Memref.isWhole_whole _)
    (Memref.whole main_v2_scv) (Memref.isWhole_whole _) (Memref.whole main_v3_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scoped0

local notation "xV" => (Memref.whole Cert.KernelIdeal.main_v0_scv : Memref Cert.KernelIdeal.sig Kind.scVector Space.hbm Cert.KernelIdeal.S25 EltTy.f32)
local notation "wV" => (Memref.whole Cert.KernelIdeal.main_v1_scv : Memref Cert.KernelIdeal.sig Kind.scVector Space.hbm Cert.KernelIdeal.S25 EltTy.f32)
local notation "bV" => (Memref.whole Cert.KernelIdeal.main_arg3_scv : Memref Cert.KernelIdeal.sig Kind.scVector Space.hbm Cert.KernelIdeal.S5 EltTy.f32)
local notation "iV" => (Memref.whole Cert.KernelIdeal.main_arg1_scv : Memref Cert.KernelIdeal.sig Kind.scVector Space.hbm Cert.KernelIdeal.S5 EltTy.i32)
local notation "oV" => (Memref.whole Cert.KernelIdeal.main_v2_scv : Memref Cert.KernelIdeal.sig Kind.scVector Space.hbm Cert.KernelIdeal.S100 EltTy.f32)
local notation "zV" => (Memref.whole Cert.KernelIdeal.main_v3_scv : Memref Cert.KernelIdeal.sig Kind.scVector Space.hbm Cert.KernelIdeal.S100 EltTy.f32)
local notation "s0" => (Memref.whole Cert.KernelIdeal.cc0_scratch0 : Memref Cert.KernelIdeal.sig Kind.scVector Space.vmem Cert.KernelIdeal.S40 EltTy.f32)
local notation "s1" => (Memref.whole Cert.KernelIdeal.cc0_scratch1 : Memref Cert.KernelIdeal.sig Kind.scVector Space.vmem Cert.KernelIdeal.S40 EltTy.f32)
local notation "s2" => (Memref.whole Cert.KernelIdeal.cc0_scratch2 : Memref Cert.KernelIdeal.sig Kind.scVector Space.vmem Cert.KernelIdeal.S16 EltTy.f32)
local notation "s3" => (Memref.whole Cert.KernelIdeal.cc0_scratch3 : Memref Cert.KernelIdeal.sig Kind.scVector Space.vmem Cert.KernelIdeal.S16 EltTy.i32)
local notation "s4" => (Memref.whole Cert.KernelIdeal.cc0_scratch4 : Memref Cert.KernelIdeal.sig Kind.scVector Space.vmem Cert.KernelIdeal.S104 EltTy.f32)
local notation "s5" => (Memref.whole Cert.KernelIdeal.cc0_scratch5 : Memref Cert.KernelIdeal.sig Kind.scVector Space.vmem Cert.KernelIdeal.S104 EltTy.f32)

/-- The body's test: the tile works. -/
abbrev works (L : grid0.Coords) : Prop :=
  Scalar.cmpi .ne (Scalar.extui (Scalar.cmpi .eq (Scalar.addi (Scalar.muli (BitVec.ofNat 32 (L 1).val) 1#32) (BitVec.ofNat 32 (L 0).val)) 0#32) : BitVec 32) 0#32 = 1#1

set_option maxHeartbeats 1000000 in
/-- The working tile takes the inputs and the result's array and brings them back, the result at its value; its scratch
    and its semaphores come back as they are due. -/
theorem tile_body (hw : works L) (hF : (K (F := F)).Facts) (I : Ins F) (O : CellTallies nD τ sig (HIx 1)) (W : Waits sig (HIx 1)) (hO : ∀ g, O g none = 0)
    (_p6 : Transfers.BatchOf (VT d L) (SemLoc.dma (sig := sig) cc0_scratch6.sem) 2)
    (_p7 : Transfers.BatchOf (VT d L) (SemLoc.dma (sig := sig) cc0_scratch7.sem) 2) :
    iprop(levAts (K (F := F)).L (K (F := F)).lev ∗ emp ∗ takes d I
        ∗ scopedBufs (VT d L) ∗ scopedSems0 (VT d L) ∗ owes (VT d L) O W)
      ⊢ wp frame (wpE (defs₀ (F := F)) 𝒱₀ (VT d L) none) Set.univ (body L)
          fun _ => iprop(brings d I ∗ scopedBufs (VT d L) ∗ scopedSems0 (VT d L)
            ∗ ∃ W', ⌜∀ p ∈ W', p ∈ W ∨ p.2 = none⌝ ∗ owes (VT d L) O W') := by
  obtain ⟨RS, hRS⟩ := ownSems0_V (F := F) d L
  obtain ⟨RB, hRB⟩ := ownBufs_V (F := F) d L
  unfold body takes brings insPts works at *
  simp only [cc0__sc_kernel_eq_skeleton]; unfold cc0__sc_kernel_skel
  rw [(K (F := F)).scopedBufs_V hF d (cV L) (jV L), SparseCore.Cfg.scopedSems0_V (Val := Elt F) d (cV L) (jV L), hRS, hRB]
  iintro ⟨#Hlv, -, ⟨⟨Hx, Hw, Hb, Hi, Ho⟩, ⟨%fz, Hz⟩⟩, ⟨⟨%g0, H0⟩, ⟨%g1, H1⟩, ⟨%g2, H2⟩, ⟨%g3, H3⟩, ⟨%g4, H4⟩, ⟨%g5, H5⟩, Hbufs⟩, ⟨S6, S7, S8, S9, Hsems⟩, HO⟩
  ihave Hmw := (show levAts (K (F := F)).L (K (F := F)).lev ⊢ Transfers.MayWaits (VT d L) (default : HIx 1) O from
    (K (F := F)).mayWaits_none (thr := VT d L) hO) $$ Hlv
  ihave Hx' := (Entails.of_eq (show (xLoc d ↦{fullShare} (I.x : Buf (Elt F) (xLoc d)) : sProp 𝕄) = (xV).view.loc (VT d L) ↦{fullShare} I.x from rfl)) $$ Hx
  ihave Hw' := (Entails.of_eq (show (wLoc d ↦{fullShare} (I.w : Buf (Elt F) (wLoc d)) : sProp 𝕄) = (wV).view.loc (VT d L) ↦{fullShare} I.w from rfl)) $$ Hw
  ihave Hb' := (Entails.of_eq (show (bLoc d ↦{fullShare} (I.b : Buf (Elt F) (bLoc d)) : sProp 𝕄) = (bV).view.loc (VT d L) ↦{fullShare} I.b from rfl)) $$ Hb
  ihave Hi' := (Entails.of_eq (show (iLoc d ↦{fullShare} (I.i : Buf (Elt F) (iLoc d)) : sProp 𝕄) = (iV).view.loc (VT d L) ↦{fullShare} I.i from rfl)) $$ Hi
  ihave Ho' := (Entails.of_eq (show (oLoc d ↦{fullShare} (I.o : Buf (Elt F) (oLoc d)) : sProp 𝕄) = (oV).view.loc (VT d L) ↦{fullShare} I.o from rfl)) $$ Ho
  ihave Hz' := (Entails.of_eq (show (zLoc d ↦{fullShare} fz : sProp 𝕄) = (zV).view.loc (VT d L) ↦{fullShare} fz from rfl)) $$ Hz
  ihave H0' := (Entails.of_eq (show ((VT d L).loc cc0_scratch0 ↦{fullShare} g0 : sProp 𝕄) = (s0).view.loc (VT d L) ↦{fullShare} g0 from rfl)) $$ H0
  ihave H1' := (Entails.of_eq (show ((VT d L).loc cc0_scratch1 ↦{fullShare} g1 : sProp 𝕄) = (s1).view.loc (VT d L) ↦{fullShare} g1 from rfl)) $$ H1
  ihave H2' := (Entails.of_eq (show ((VT d L).loc cc0_scratch2 ↦{fullShare} g2 : sProp 𝕄) = (s2).view.loc (VT d L) ↦{fullShare} g2 from rfl)) $$ H2
  ihave H3' := (Entails.of_eq (show ((VT d L).loc cc0_scratch3 ↦{fullShare} g3 : sProp 𝕄) = (s3).view.loc (VT d L) ↦{fullShare} g3 from rfl)) $$ H3
  ihave H4' := (Entails.of_eq (show ((VT d L).loc cc0_scratch4 ↦{fullShare} g4 : sProp 𝕄) = (s4).view.loc (VT d L) ↦{fullShare} g4 from rfl)) $$ H4
  ihave H5' := (Entails.of_eq (show ((VT d L).loc cc0_scratch5 ↦{fullShare} g5 : sProp 𝕄) = (s5).view.loc (VT d L) ↦{fullShare} g5 from rfl)) $$ H5
  sl_exec
  sl_step
  have h25 (l : Fin 16) : tile_body.sl.v25 I (ln l) = I.x (ln ⟨0 + l.val, by omega⟩) :=
    load_of_copy (m := 25) (off := 0) (s0).view (s0).view.junk (by decide) (by decide) I.x l (by omega)
  have h27 (l : Fin 16) : tile_body.sl.v27 I (ln l) = I.x (ln ⟨9 + l.val, by omega⟩) :=
    load_of_copy (m := 25) (off := 9) (s0).view (s0).view.junk (by decide) (by decide) I.x l (by omega)
  have h29 (l : Fin 16) : tile_body.sl.v29 I (ln l) = I.w (ln ⟨0 + l.val, by omega⟩) :=
    load_of_copy (m := 25) (off := 0) (s1).view (s1).view.junk (by decide) (by decide) I.w l (by omega)
  have h31 (l : Fin 16) : tile_body.sl.v31 I (ln l) = I.w (ln ⟨9 + l.val, by omega⟩) :=
    load_of_copy (m := 25) (off := 9) (s1).view (s1).view.junk (by decide) (by decide) I.w l (by omega)
  have h33 (l : Fin 16) (h : 0 + l.val < 5) : tile_body.sl.v33 d L I g2 (ln l) = I.b (ln ⟨0 + l.val, h⟩) :=
    load_of_copy (m := 5) (off := 0) (s2).view g2 (by decide) (by decide) I.b l h
  have h35 (l : Fin 16) (h : 0 + l.val < 5) : tile_body.sl.v35 d L I g3 (ln l) = I.i (ln ⟨0 + l.val, h⟩) :=
    load_of_copy (m := 5) (off := 0) (s3).view g3 (by decide) (by decide) I.i l h
  have h200 (l : Fin 16) : tile_body.sl.v200 I (ln l) = I.o (ln ⟨0 + l.val, by omega⟩) :=
    load_of_copy (m := 100) (off := 0) (s4).view (s4).view.junk (by decide) (by decide) I.o l (by omega)
  have h202 (l : Fin 16) : tile_body.sl.v202 I (ln l) = I.o (ln ⟨4 + l.val, by omega⟩) :=
    load_of_copy (m := 100) (off := 4) (s4).view (s4).view.junk (by decide) (by decide) I.o l (by omega)
  have h285 (l : Fin 16) : tile_body.sl.v285 I (ln l) = I.o (ln ⟨20 + l.val, by omega⟩) :=
    load_of_copy (m := 100) (off := 20) (s4).view (s4).view.junk (by decide) (by decide) I.o l (by omega)
  have h287 (l : Fin 16) : tile_body.sl.v287 I (ln l) = I.o (ln ⟨24 + l.val, by omega⟩) :=
    load_of_copy (m := 100) (off := 24) (s4).view (s4).view.junk (by decide) (by decide) I.o l (by omega)
  have h370 (l : Fin 16) : tile_body.sl.v370 I (ln l) = I.o (ln ⟨40 + l.val, by omega⟩) :=
    load_of_copy (m := 100) (off := 40) (s4).view (s4).view.junk (by decide) (by decide) I.o l (by omega)
  have h372 (l : Fin 16) : tile_body.sl.v372 I (ln l) = I.o (ln ⟨44 + l.val, by omega⟩) :=
    load_of_copy (m := 100) (off := 44) (s4).view (s4).view.junk (by decide) (by decide) I.o l (by omega)
  have h455 (l : Fin 16) : tile_body.sl.v455 I (ln l) = I.o (ln ⟨60 + l.val, by omega⟩) :=
    load_of_copy (m := 100) (off := 60) (s4).view (s4).view.junk (by decide) (by decide) I.o l (by omega)
  have h457 (l : Fin 16) : tile_body.sl.v457 I (ln l) = I.o (ln ⟨64 + l.val, by omega⟩) :=
    load_of_copy (m := 100) (off := 64) (s4).view (s4).view.junk (by decide) (by decide) I.o l (by omega)
  have h540 (l : Fin 16) : tile_body.sl.v540 I (ln l) = I.o (ln ⟨80 + l.val, by omega⟩) :=
    load_of_copy (m := 100) (off := 80) (s4).view (s4).view.junk (by decide) (by decide) I.o l (by omega)
  have h542 (l : Fin 16) : tile_body.sl.v542 I (ln l) = I.o (ln ⟨84 + l.val, by omega⟩) :=
    load_of_copy (m := 100) (off := 84) (s4).view (s4).view.junk (by decide) (by decide) I.o l (by omega)
  have hz : View.write (Elt F) (zV).view fz (tile_body.sl.dma36 d L I g2 g3 g5) Finset.univ = I.z := by
    refine (View.write_whole_univ (Val := Elt F) _ _ _).trans ?_
    funext p
    have hp : (p 0).val < 100 := (p 0).isLt
    have e : tile_body.sl.dma36 d L I g2 g3 g5 p = (s5).view.read (Elt F) ((s5).view.writes (Elt F) g5 (tile_body.sl.H5'_10 d L I g2 g3)) (ln ⟨(p 0).val, by omega⟩) :=
      congrArg ((s5).view.read (Elt F) ((s5).view.writes (Elt F) g5 (tile_body.sl.H5'_10 d L I g2 g3))) (idx1_ext (by show 0 + 1 * (p 0).val = (p 0).val; omega))
    rw [e]
    refine (View.read_writes_apply_of_pieces _ _ (fun y => if h : (y 0).val < 100 then I.z (ln ⟨(y 0).val, h⟩) else (s5).view.read (Elt F) g5 y) _ ?_ _ ?_).trans ?_
    · have piece (off : ℕ) (inb : ∀ a, (![off] : Fin 1 → ℕ) a + S16.size a ≤ S104.size a) (i : Fin 5) (c : ℕ) (e : off = 20 * i.val + c) (hc : c + 15 < 20)
          (w : S16.Idx → F .f32) (hw : ∀ l : Fin 16, w (ln l) = place I.i (lin I.x I.w I.b i) (BitVec.ofNat 32 (l.val + c)) (I.o (ln ⟨off + l.val, by have := inb 0; simp at this; omega⟩)))
          (x : (Rect.unit (s := S104) ![off] S16.size inb).shape.Idx) :
          w x = (fun y : S104.Idx => if h : (y 0).val < 100 then I.z (ln ⟨(y 0).val, h⟩) else (s5).view.read (Elt F) g5 y) ((Rect.unit (s := S104) ![off] S16.size inb).emb x) := by
        have hx : (x 0).val < 16 := (x 0).isLt
        have hv : (((Rect.unit (s := S104) ![off] S16.size inb).emb x) 0).val = off + (x 0).val := by show off + 1 * (x 0).val = _; omega
        have hxl : x = ln (n := 16) ⟨(x 0).val, hx⟩ := idx1_ext rfl
        have := i.isLt
        simp only [hv]
        rw [dif_pos (by omega)]
        refine (congrArg w hxl).trans ((hw _).trans ?_)
        rw [z_row I i ((x 0).val + c) (by omega) _ (by rw [ln_val]; simp only; omega)]
      delta tile_body.sl.H5'_10
      simp only [List.forall_mem_cons]
      refine ⟨piece 84 _ 4 4 rfl (by omega) _ ?_, piece 80 _ 4 0 rfl (by omega) _ ?_, piece 64 _ 3 4 rfl (by omega) _ ?_, piece 60 _ 3 0 rfl (by omega) _ ?_,
        piece 44 _ 2 4 rfl (by omega) _ ?_, piece 40 _ 2 0 rfl (by omega) _ ?_, piece 24 _ 1 4 rfl (by omega) _ ?_, piece 20 _ 1 0 rfl (by omega) _ ?_,
        piece 4 _ 0 4 rfl (by omega) _ ?_, piece 0 _ 0 0 rfl (by omega) _ ?_, fun _ h => absurd h List.not_mem_nil⟩
      all_goals
        intro l
        delta tile_body.sl.r tile_body.sl.r_1 tile_body.sl.r_2 tile_body.sl.r_3 tile_body.sl.r_4 tile_body.sl.r_5 tile_body.sl.r_6 tile_body.sl.r_7
          tile_body.sl.r_8 tile_body.sl.r_9 tile_body.sl.r_10 tile_body.sl.r_11 tile_body.sl.r_12 tile_body.sl.r_13 tile_body.sl.r_14
          tile_body.sl.r_15 tile_body.sl.r_16 tile_body.sl.r_17 tile_body.sl.r_18 tile_body.sl.r_19 tile_body.sl.r_20 tile_body.sl.r_21
          tile_body.sl.r_22 tile_body.sl.r_23 tile_body.sl.r_24 tile_body.sl.r_25 tile_body.sl.r_26 tile_body.sl.r_27 tile_body.sl.v26
          tile_body.sl.v28 tile_body.sl.v30 tile_body.sl.v32 tile_body.sl.v34 tile_body.sl.v36 tile_body.sl.v37 tile_body.sl.v38 tile_body.sl.v39
          tile_body.sl.v40 tile_body.sl.v41 tile_body.sl.v43 tile_body.sl.v44 tile_body.sl.v45 tile_body.sl.v46 tile_body.sl.v47 tile_body.sl.v49
          tile_body.sl.v50 tile_body.sl.v51 tile_body.sl.v52 tile_body.sl.v53 tile_body.sl.v55 tile_body.sl.v56 tile_body.sl.v57 tile_body.sl.v58
          tile_body.sl.v59 tile_body.sl.v61 tile_body.sl.v62 tile_body.sl.v63 tile_body.sl.v64 tile_body.sl.v65 tile_body.sl.v66 tile_body.sl.v67
          tile_body.sl.v70 tile_body.sl.v71 tile_body.sl.v72 tile_body.sl.v73 tile_body.sl.v76 tile_body.sl.v77 tile_body.sl.v78 tile_body.sl.v79
          tile_body.sl.v82 tile_body.sl.v83 tile_body.sl.v84 tile_body.sl.v85 tile_body.sl.v88 tile_body.sl.v89 tile_body.sl.v90 tile_body.sl.v91
          tile_body.sl.v92 tile_body.sl.v93 tile_body.sl.v94 tile_body.sl.v97 tile_body.sl.v98 tile_body.sl.v99 tile_body.sl.v100 tile_body.sl.v103
          tile_body.sl.v104 tile_body.sl.v105 tile_body.sl.v106 tile_body.sl.v109 tile_body.sl.v110 tile_body.sl.v111 tile_body.sl.v112
          tile_body.sl.v115 tile_body.sl.v116 tile_body.sl.v117 tile_body.sl.v118 tile_body.sl.v119 tile_body.sl.v120 tile_body.sl.v121
          tile_body.sl.v124 tile_body.sl.v125 tile_body.sl.v126 tile_body.sl.v127 tile_body.sl.v130 tile_body.sl.v131 tile_body.sl.v132
          tile_body.sl.v133 tile_body.sl.v245
        simp only [
          k0_pay1, k0_pay2, k0_pay3, k0_pay4, k0_pay5, k0_pay6, k0_pay7, k0_pay8, k0_pay9, k0_pay10, k0_pay11, k0_pay12, k0_pay13, k0_pay14, k0_pay15,
          k0_pay16, k0_pay17, k0_pay18, k0_pay19, k0_pay20, k0_pay21, k0_pay22, k0_pay23, k0_pay24, k0_pay25, k0_pay26, k0_pay27, k0_pay28, k0_pay29,
          k0_pay30, k0_pay31, k0_pay32, k0_pay33, k0_pay34, k0_pay35, k0_pay36, k0_pay37, k0_pay38, k0_pay39, k0_pay40, k0_pay41, k0_pay42, k0_pay43,
          k0_pay44, k0_pay45, k0_pay46, k0_pay47, k0_pay48, k0_pay49, k0_pay50, k0_pay51, k0_pay52, k0_pay53, k0_pay54, k0_pay55, k0_pay56, k0_pay57,
          k0_pay58, k0_pay59, k0_pay60, k0_pay61, k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81, k0_pay82, k0_pay83, k0_pay84, k0_pay85,
          k0_pay86, k0_pay87, k0_pay88, k0_pay89, k0_pay90, k0_pay91, k0_pay92, k0_pay93, k0_pay94, k0_pay95, k0_pay96, k0_pay97, k0_pay98, k0_pay99,
          select_lane, cmpi_lane, addi_lane, broadcast_lane, addf_lane, mulf_lane, extract1, iota_lane, shapeCast_self, select_lit, col_four,
          h25, h27, h29, h31, h33, h35, h200, h202, h285, h287, h370, h372, h455, h457, h540, h542,
          List.length_singleton, Nat.reduceMod, Nat.reduceLT, Nat.reducePow, Nat.reduceAdd, Nat.reduceEqDiff, reduceIte, Nat.zero_add, Nat.add_zero]
        rfl
    · refine Or.elim (lt_or_ge ((p 0).val % 20) 16) (fun h => ?_) (fun h => ?_)
      all_goals
        delta tile_body.sl.H5'_10
        simp only [List.mem_cons, List.not_mem_nil, or_false, _root_.exists_eq_or_imp, _root_.exists_eq_left, Rect.mem_set_unit]
        simp [ln]
        omega
    · rw [dif_pos (show ((ln (n := 104) ⟨(p 0).val, by omega⟩) 0).val < 100 from hp)]
      exact congrArg I.z (idx1_ext (x := ln ⟨(p 0).val, hp⟩) (y := p) rfl)
  ihave Hz2 := (Entails.of_eq (show ((zV).view.loc (VT d L) ↦{fullShare} View.write (Elt F) (zV).view fz (tile_body.sl.dma36 d L I g2 g3 g5) Finset.univ : sProp 𝕄)
      = zLoc d ↦{fullShare} (I.z : Buf (Elt F) (zLoc d)) by rw [hz])) $$ Hz'
  isplitl [Hx' Hw' Hb' Hi' Ho' Hz2]
  · isplitr [Hz2]
    · isplitl [Hx']; · iexact Hx'
      isplitl [Hw']; · iexact Hw'
      isplitl [Hb']; · iexact Hb'
      isplitl [Hi']; · iexact Hi'
      iexact Ho'
    · iexact Hz2
  isplitl [H0' H1' H2' H3' H4' H5' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    isplitl [H5']; · iexists _; iexact H5'
    iexact Hbufs
  isplitl [S6 S7 S8 S9 Hsems]
  · isplitl [S6]; · iexact S6
    isplitl [S7]; · iexact S7
    isplitl [S8]; · iexact S8
    isplitl [S9]; · iexact S9
    iexact Hsems
  iexists _; isplitr
  swap; · iexact HO
  ipureintro; intro p hp
  repeat (rcases Finset.mem_insert.mp hp with hp | hp; · exact .inr (hp ▸ rfl))
  exact .inl hp

set_option maxHeartbeats 4000000 in
/-- A tile that does not work returns at once, with nothing of the arrays. -/
theorem tile_idle (hw : ¬ works L) (A : sProp 𝕄) (B : sProp 𝕄) (O : CellTallies nD τ sig (HIx 1)) (W : Waits sig (HIx 1)) :
    iprop(A ∗ emp ∗ emp ∗ B ∗ owes (VT d L) O W)
      ⊢ wp frame (wpE (defs₀ (F := F)) 𝒱₀ (VT d L) none) Set.univ (body L)
          fun _ => iprop(B ∗ ∃ W', ⌜∀ p ∈ W', p ∈ W ∨ p.2 = none⌝ ∗ owes (VT d L) O W') := by
  unfold body works at *
  simp only [cc0__sc_kernel_eq_skeleton]; unfold cc0__sc_kernel_skel
  iintro ⟨-, -, -, HB, HO⟩
  sl_exec
  sl_step
  isplitl [HB]; · iexact HB
  iexists _; isplitr
  swap; · iexact HO
  ipureintro; exact fun p hp => .inl hp
end Tile

end Cert.Proof.Sc

end
-- ==== Proof.Launch.lean ====
/-
  The kernel's run: each tile's obligation, the hand-out to the tiles, @main around the call, and what the whole
  program leaves, over any float values.
-/
module

public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.ShloMosaic.StableHlo (held held_split held_sdiff_result wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The tiles' obligation -/

/-- The grid's coordinates of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body's test asks whether the subcore is the first. -/
theorem works_iff (c : Fin 1) (s : Fin 16) : works (coordsV c s) ↔ s.val = 0 := by
  revert c s
  unfold works
  simp only [coordsV]
  decide

theorem defs₀_vector (c : Fin τ.nSC) (s : Fin τ.nSub) :
    defs₀ (F := F) (.scVector c s) 0 () = SparseCore.onTile hcore0 hsub0 (fun c s => body (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile that keeps what it has and takes nothing meets the obligation with nothing brought. -/
theorem idle_body (d : Dev nD) (L : grid0.Coords) (hw : ¬ works L) (A B C : sProp 𝕄) (O : CellTallies nD τ sig (HIx 1)) (W : Waits sig (HIx 1)) :
    iprop(A ∗ emp ∗ emp ∗ B ∗ C ∗ owes (VT d L) O W)
      ⊢ wp frame (wpE (defs₀ (F := F)) 𝒱₀ (VT d L) none) Set.univ (body L)
          fun _ => iprop(emp ∗ B ∗ C ∗ ∃ W', ⌜∀ p ∈ W', p ∈ W ∨ p.2 = none⌝ ∗ owes (VT d L) O W') := by
  refine BI.Entails.trans ?_ ((tile_idle d L hw A iprop(B ∗ C) O W).trans (wp_mono frame _ _ fun _ => ?_))
  · show iprop(A ∗ emp ∗ emp ∗ B ∗ C ∗ owes (VT d L) O W) ⊢ iprop(A ∗ emp ∗ emp ∗ (B ∗ C) ∗ owes (VT d L) O W)
    iintro ⟨HA, -, -, HB, HC, HO⟩
    isplitl [HA]; · iexact HA
    isplitr; · iempintro
    isplitr; · iempintro
    isplitr [HO]
    · isplitl [HB]; · iexact HB
      iexact HC
    · iexact HO
  · show iprop((B ∗ C) ∗ ∃ W', ⌜∀ p ∈ W', p ∈ W ∨ p.2 = none⌝ ∗ owes (VT d L) O W')
      ⊢ iprop(emp ∗ B ∗ C ∗ ∃ W', ⌜∀ p ∈ W', p ∈ W ∨ p.2 = none⌝ ∗ owes (VT d L) O W')
    iintro ⟨⟨HB, HC⟩, HO⟩
    isplitr; · iempintro
    isplitl [HB]; · iexact HB
    isplitl [HC]; · iexact HC
    iexact HO

set_option maxRecDepth 16384 in
/-- Every tile of the call meets its obligation. -/
theorem tileObl (I : Dev nD → Ins F) (hF : (K (F := F)).Facts) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw := works_iff ⟨_, hci.1⟩ ⟨_, hci.2⟩
  show iprop(_ ∗ _ ∗ onFirst (takes d (I d)) i ∗ _) ⊢ wp _ _ _ _ fun _ => iprop(onFirst (brings d (I d)) i ∗ _)
  unfold onFirst
  by_cases h : i.val = 0
  · rw [if_pos h, if_pos h]
    exact (tile_body d (coordsV ⟨_, hci.1⟩ ⟨_, hci.2⟩) (hw.mpr h) hF (I d) O W hO trivial trivial).trans (wp_mono frame _ _ fun _ => obl_post)
  · rw [if_neg h, if_neg h]
    exact (idle_body d (coordsV ⟨_, hci.1⟩ ⟨_, hci.2⟩) (fun hc => h (hw.mp hc)) _ _ _ O W).trans (wp_mono frame _ _ fun _ => obl_post)

/-! ## The hand-out to the tiles -/

omit [FloatOps F] in
/-- Nothing, many times, is nothing. -/
theorem bigSep_nothing {J : Type} (s : Finset J) : (bigSep s fun _ => iprop(emp)) = (iprop(emp) : sProp 𝕄) := bigSep_emp_const s

omit [FloatOps F] in
/-- What the first tile has is what the tiles have together. -/
theorem bigSep_onFirst (A : sProp 𝕄) {n : ℕ} [NeZero n] : (bigSep Finset.univ fun i : Fin n => onFirst A i) = A := by
  rw [SparseCore.bigSep_erase' (Finset.mem_univ (0 : Fin n)), bigSep_congr (Ψ := fun _ => iprop(emp)) fun i hi => ?_, bigSep_nothing]
  · rw [show onFirst A (0 : Fin n) = A from if_pos rfl]
    exact equiv_iff.mp BI.sep_emp
  · exact if_neg fun h => (Finset.mem_erase.mp hi).1 (Fin.ext h)

/-- The call's hand-out: all of it to the first tile, all of it back from there. -/
theorem vecSplit (I : Dev nD → Ins F) : (K (F := F)).VecSplit' (P I) 0 := by
  intro d c
  show takes d (I d) ⊢ |={Set.univ}=> iprop(
      (bigSep Finset.univ fun i : Fin 16 => onFirst (takes d (I d)) i)
      ∗ ((bigSep Finset.univ fun i : Fin 16 => onFirst (brings d (I d)) i) -∗ brings d (I d)))
  rw [bigSep_onFirst, bigSep_onFirst]
  iintro H; imodintro
  isplitl [H]; · iexact H
  iintro H; iexact H

/-! ## The launch element of the ghost state -/

def u₀ : UU := (initOf (K (F := F)).hsCells (K (F := F)).hsToks, 1)

theorem hu₀ (I : Dev nD → Ins F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) I).x q thr) = bigSep Finset.univ fun _ => iprop(emp) from
    bigSep_congr fun _ _ => bigSep_univ_of_subsingleton (0 : Fin 1), bigSep_nothing]
  iempintro

/-! ## @main on the TensorCore -/

variable (m : (ℓ : Loc nD τ sig) → Buf (Elt F) ℓ) (ρ : Dev nD → PrngReg)

/-- The kernel's inputs on device `d`: the arguments, the rank-2 ones flat. -/
def In (d : Dev nD) : Ins F where
  x := shapeCast S25 (m ((SparseCore.T d).loc main_arg0) : S5x5.Idx → F .f32) shapeCasts_S5x5_S25
  w := shapeCast S25 (m ((SparseCore.T d).loc main_arg2) : S5x5.Idx → F .f32) shapeCasts_S5x5_S25
  b := m ((SparseCore.T d).loc main_arg3)
  i := m ((SparseCore.T d).loc main_arg1)
  o := shapeCast S100 (m ((SparseCore.T d).loc main_arg4) : S5x20.Idx → F .f32) shapeCasts_S5x20_S100
/-- The program's result on device `d`: the kernel's flat result as rows. -/
def Out (d : Dev nD) : S5x20.Idx → F .f32 := shapeCast S5x20 (In m d).z shapeCasts_S100_S5x20

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev opX : HloOp τ sig (Elt F) := StableHlo.reshape main_arg0 main_v0 (rfl : (.f32 : EltTy) = .f32) shapeCasts_S5x5_S25
abbrev opW : HloOp τ sig (Elt F) := StableHlo.reshape main_arg2 main_v1 (rfl : (.f32 : EltTy) = .f32) shapeCasts_S5x5_S25
abbrev opO : HloOp τ sig (Elt F) := StableHlo.reshape main_arg4 main_v2 (rfl : (.f32 : EltTy) = .f32) shapeCasts_S5x20_S100
abbrev opZ : HloOp τ sig (Elt F) := StableHlo.reshape main_v3 main_v4 (rfl : (.f32 : EltTy) = .f32) shapeCasts_S100_S5x20

/-- The TensorCore's arrays. -/
abbrev All : Finset (DevRef τ sig) := {v0', v1', a3', a1', v2', v3', a0', a2', a4', v4'}

omit [FloatOps F] in
theorem held_All (d : Dev nD) (W : Valuation τ sig (Elt F)) :
    (held (T d) All W : sProp 𝕄)
      = iprop((xLoc d ↦{fullShare} W v0') ∗ (wLoc d ↦{fullShare} W v1') ∗ (bLoc d ↦{fullShare} W a3') ∗ (iLoc d ↦{fullShare} W a1')
          ∗ (oLoc d ↦{fullShare} W v2') ∗ (zLoc d ↦{fullShare} W v3') ∗ ((SparseCore.T d).loc main_arg0 ↦{fullShare} W a0')
          ∗ ((SparseCore.T d).loc main_arg2 ↦{fullShare} W a2') ∗ ((SparseCore.T d).loc main_arg4 ↦{fullShare} W a4')
          ∗ (SparseCore.T d).loc main_v4 ↦{fullShare} W v4') := by
  unfold held All
  repeat rw [SparseCore.bigSep_insert' (by decide)]
  rw [bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) All (V0 m d) := by
  rw [held_All]
  unfold unscopedBufs
  rw [show (Finset.univ.filter fun b : Ref sig .tc => ¬ b.isScoped)
    = {main_v0, main_v1, main_arg3, main_arg1, main_v2, main_v3, main_arg0, main_arg2, main_arg4, main_v4} by decide]
  repeat rw [SparseCore.bigSep_insert' (by decide)]
  rw [bigSep_singleton]
  rfl

/-- The valuations: before the call, after the call, at the end. -/
def V3 (d : Dev nD) : Valuation τ sig (Elt F) := (opO (F := F)).result ((opW (F := F)).result ((opX (F := F)).result (V0 m d)))
def V4 (d : Dev nD) : Valuation τ sig (Elt F) := Function.update (V3 m d) v3' (In m d).z
def V5 (d : Dev nD) : Valuation τ sig (Elt F) := (opZ (F := F)).result (V4 m d)

omit [FloatOps F] in
/-- An array none of the first three reshapes writes is as it was at launch. -/
theorem V3_keep (d : Dev nD) (b : DevRef τ sig) (h0 : b ≠ v0') (h1 : b ≠ v1') (h2 : b ≠ v2') : V3 m d b = m (d, b) := by
  unfold V3
  rw [(opO (F := F)).result_of_not_mem _ (show b ∉ ({v2'} : Finset (DevRef τ sig)) from fun h => h2 (Finset.mem_singleton.mp h)),
    (opW (F := F)).result_of_not_mem _ (show b ∉ ({v1'} : Finset (DevRef τ sig)) from fun h => h1 (Finset.mem_singleton.mp h)),
    (opX (F := F)).result_of_not_mem _ (show b ∉ ({v0'} : Finset (DevRef τ sig)) from fun h => h0 (Finset.mem_singleton.mp h))]
  rfl
theorem V3_x (d : Dev nD) : V3 m d v0' = (In m d).x := by
  unfold V3
  rw [(opO (F := F)).result_of_not_mem _ (show v0' ∉ ({v2'} : Finset (DevRef τ sig)) by decide),
    (opW (F := F)).result_of_not_mem _ (show v0' ∉ ({v1'} : Finset (DevRef τ sig)) by decide)]
  exact StableHlo.reshape_result _ _ _ _ _ _ _
theorem V3_w (d : Dev nD) : V3 m d v1' = (In m d).w := by
  unfold V3
  rw [(opO (F := F)).result_of_not_mem _ (show v1' ∉ ({v2'} : Finset (DevRef τ sig)) by decide)]
  refine (StableHlo.reshape_result _ _ _ _ _ _ _).trans ?_
  rw [(opX (F := F)).result_of_not_mem _ (show a2' ∉ ({v0'} : Finset (DevRef τ sig)) by decide)]
  rfl
theorem V3_o (d : Dev nD) : V3 m d v2' = (In m d).o := by
  unfold V3
  refine (StableHlo.reshape_result _ _ _ _ _ _ _).trans ?_
  rw [(opW (F := F)).result_of_not_mem _ (show a4' ∉ ({v1'} : Finset (DevRef τ sig)) by decide),
    (opX (F := F)).result_of_not_mem _ (show a4' ∉ ({v0'} : Finset (DevRef τ sig)) by decide)]
  rfl
theorem V4_z (d : Dev nD) : V4 m d v3' = (In m d).z := Function.update_self _ _ _
theorem V4_ne (d : Dev nD) (b : DevRef τ sig) (h : b ≠ v3') : V4 m d b = V3 m d b := Function.update_of_ne h _ _
theorem V5_out (d : Dev nD) : V5 m d v4' = Out m d :=
  (StableHlo.reshape_result _ _ _ _ _ _ _).trans (by rw [V4_z]; rfl)
theorem V5_ne (d : Dev nD) (b : DevRef τ sig) (h : b ≠ v4') : V5 m d b = V4 m d b :=
  (opZ (F := F)).result_of_not_mem _ (show b ∉ ({v4'} : Finset (DevRef τ sig)) from fun e => h (Finset.mem_singleton.mp e))
/-- An argument is at the end as it was at launch. -/
theorem V5_keep (d : Dev nD) (b : DevRef τ sig) (h0 : b ≠ v0') (h1 : b ≠ v1') (h2 : b ≠ v2') (h3 : b ≠ v3') (h4 : b ≠ v4') :
    V5 m d b = m (d, b) := (V5_ne m d b h4).trans ((V4_ne m d b h3).trans (V3_keep m d b h0 h1 h2))

theorem hX : (opX (F := F)).bufs ⊆ All := show ({a0', v0'} : Finset (DevRef τ sig)) ⊆ All by decide
theorem hW : (opW (F := F)).bufs ⊆ All := show ({a2', v1'} : Finset (DevRef τ sig)) ⊆ All by decide
theorem hO : (opO (F := F)).bufs ⊆ All := show ({a4', v2'} : Finset (DevRef τ sig)) ⊆ All by decide
theorem hZ : (opZ (F := F)).bufs ⊆ All := show ({v3', v4'} : Finset (DevRef τ sig)) ⊆ All by decide

theorem st0_eq (I : Dev nD → Ins F) (d : Dev nD) : (bigSep Finset.univ fun c : Fin ((K (F := F)).nCore 0) => (P I).st 0 d c) = takes d (I d) :=
  bigSep_univ_of_subsingleton (0 : Fin 1)
theorem dn0_eq (I : Dev nD → Ins F) (d : Dev nD) : (bigSep Finset.univ fun c : Fin ((K (F := F)).nCore 0) => (P I).dn 0 d c) = brings d (I d) :=
  bigSep_univ_of_subsingleton (0 : Fin 1)

/-- What @main leaves: every array at the last valuation. -/
abbrev FIN (d : Dev nD) : sProp 𝕄 := held (T d) All (V5 m d)

/-- @main on device `d`'s TensorCore: three reshapes, the call, a reshape. -/
theorem hmain (κ : GSem nD τ sig → ℕ) (d : Dev nD) :
    iprop((K (F := F)).ctx EH (P (In m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := All) hX (V := V0 m d)) $$ [Hb Hheld]
  · isplitl [Hb] <;> iassumption
  iintro ⟨Hb, Hheld⟩
  rw [wp_ret]; imodintro
  iapply (wp_hlo_within 𝒱 (SparseCore.T d) none Set.univ (op := opW) (S := All) hW (V := (opX (F := F)).result (V0 m d))) $$ [Hb Hheld]
  · isplitl [Hb] <;> iassumption
  iintro ⟨Hb, Hheld⟩
  rw [wp_ret]; imodintro
  iapply (wp_hlo_within 𝒱 (SparseCore.T d) none Set.univ (op := opO) (S := All) hO (V := (opW (F := F)).result ((opX (F := F)).result (V0 m d)))) $$ [Hb Hheld]
  · isplitl [Hb] <;> iassumption
  iintro ⟨Hb, Hheld⟩
  rw [wp_ret]; imodintro
  ihave Hh := (Entails.of_eq (show held (T d) All ((opO (F := F)).result ((opW (F := F)).result ((opX (F := F)).result (V0 m d)))) = _ from held_All (F := F) d (V3 m d))) $$ Hheld
  icases Hh with ⟨Hx, Hw, Hbi, Hi, Ho, Hz, H0, H2, H4, Hv4⟩
  iapply ((K (F := F)).wp_run (D (F := F)) 𝒱 (EH := EH) (P := P (In m)) κ d 0) $$ [Hst Hx Hw Hbi Hi Ho Hz Hb H0 H2 H4 Hv4 Hts]
  isplitr; · iexact Hctx
  isplitl [Hst]; · iexact Hst
  isplitl [Hx Hw Hbi Hi Ho Hz]
  · rw [st0_eq]
    unfold takes insPts
    rw [← V3_x, ← V3_w, ← V3_o, show (In m d).b = V3 m d a3' from (V3_keep m d a3' (by decide) (by decide) (by decide)).symm,
      show (In m d).i = V3 m d a1' from (V3_keep m d a1' (by decide) (by decide) (by decide)).symm]
    isplitr [Hz]
    · isplitl [Hx]; · iexact Hx
      isplitl [Hw]; · iexact Hw
      isplitl [Hbi]; · iexact Hbi
      isplitl [Hi]; · iexact Hi
      iexact Ho
    · iexists _; iexact Hz
  iintro ⟨Hst, Hdn⟩
  ihave Hdn' := (Entails.of_eq (dn0_eq (In m) d)) $$ Hdn
  ihave Hh := (Entails.of_eq (show brings d (In m d) = iprop(((xLoc d ↦{fullShare} V4 m d v0') ∗ (wLoc d ↦{fullShare} V4 m d v1') ∗ (bLoc d ↦{fullShare} V4 m d a3')
        ∗ (iLoc d ↦{fullShare} V4 m d a1') ∗ (oLoc d ↦{fullShare} V4 m d v2')) ∗ (zLoc d ↦{fullShare} V4 m d v3')) by
      unfold brings insPts
      rw [V4_z, V4_ne m d v0' (by decide), V4_ne m d v1' (by decide), V4_ne m d v2' (by decide), V4_ne m d a3' (by decide), V4_ne m d a1' (by decide),
        V3_x, V3_w, V3_o, V3_keep m d a3' (by decide) (by decide) (by decide), V3_keep m d a1' (by decide) (by decide) (by decide)]
      rfl)) $$ Hdn'
  icases Hh with ⟨⟨Hx, Hw, Hbi, Hi, Ho⟩, Hz⟩
  iapply (wp_hlo_within 𝒱 (SparseCore.T d) none Set.univ (op := opZ) (S := All) hZ (V := V4 m d)) $$ [Hb Hx Hw Hbi Hi Ho Hz H0 H2 H4 Hv4]
  · isplitl [Hb]; · iexact Hb
    rw [held_All, V4_ne m d a0' (by decide), V4_ne m d a2' (by decide), V4_ne m d a4' (by decide), V4_ne m d v4' (by decide)]
    isplitl [Hx]; · iexact Hx
    isplitl [Hw]; · iexact Hw
    isplitl [Hbi]; · iexact Hbi
    isplitl [Hi]; · iexact Hi
    isplitl [Ho]; · iexact Ho
    isplitl [Hz]; · iexact Hz
    isplitl [H0]; · iexact H0
    isplitl [H2]; · iexact H2
    isplitl [H4]; · iexact H4
    iexact Hv4
  iintro ⟨Hb, Hheld⟩
  rw [wp_ret]; imodintro; imodintro
  isplitl [Hst]; · iexact Hst
  isplitr [Hb Hts]
  · iexact Hheld
  isplitl [Hb] <;> iassumption

/-- What the claims read of device `d`'s final state: the result, and the arguments as they were. -/
def fq (d : Dev nD) (s' : Phys nD τ sig (Elt F)) : Prop :=
  s'.mem.mem ((SparseCore.T d).loc main_v4) = Out m d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4)

omit [FloatOps F] in
/-- An array held whole holds, in the final state, what it is held at; the state stays. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  unfold FIN
  rw [held_All]
  iintro ⟨⟨-, -, H3, H1, -, -, H0, H2, H4, Hv⟩, HSI⟩
  ihave A := (agree s' _ _) $$ [HSI H0]; · isplitl [HSI] <;> iassumption
  icases A with ⟨%h0, HSI⟩
  ihave A := (agree s' _ _) $$ [HSI H1]; · isplitl [HSI] <;> iassumption
  icases A with ⟨%h1, HSI⟩
  ihave A := (agree s' _ _) $$ [HSI H2]; · isplitl [HSI] <;> iassumption
  icases A with ⟨%h2, HSI⟩
  ihave A := (agree s' _ _) $$ [HSI H3]; · isplitl [HSI] <;> iassumption
  icases A with ⟨%h3, HSI⟩
  ihave A := (agree s' _ _) $$ [HSI H4]; · isplitl [HSI] <;> iassumption
  icases A with ⟨%h4, HSI⟩
  ihave A := (agree s' _ _) $$ [HSI Hv]; · isplitl [HSI] <;> iassumption
  icases A with ⟨%hv, -⟩
  ipureintro
  have keep (b : DevRef τ sig) := V5_keep m d b
  exact ⟨hv.trans (V5_out m d), h0.trans (keep a0' (by decide) (by decide) (by decide) (by decide) (by decide)),
    h1.trans (keep a1' (by decide) (by decide) (by decide) (by decide) (by decide)), h2.trans (keep a2' (by decide) (by decide) (by decide) (by decide) (by decide)),
    h3.trans (keep a3' (by decide) (by decide) (by decide) (by decide) (by decide)), h4.trans (keep a4' (by decide) (by decide) (by decide) (by decide) (by decide))⟩

/-! ## The program's run -/

/-- What the program ends in: the result, the arguments as they were, every semaphore at zero. -/
def QC : PUnit × MemSt nD τ sig (Elt F) → Prop := fun r =>
  (∀ c : Dev nD, r.2.mem ((SparseCore.T c).loc main_v4) = Out m c
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4)) ∧ r.2.sem = fun _ => 0

/-- Every run of the program ends, with the result at `Out`, its arguments unchanged and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (In m)) (A := ∅) facts v₀
    (fun q hq => match q with | 0 => nomatch hq)
    (fun q _ => match q with | 0 => tileObl (In m) facts)
    (fun q _ => match q with | 0 => SparseCore.Cfg.VecSplit.of_plain (vecSplit (In m)))
    m ρ main (fun _ => iprop(emp)) (FIN m) (u₀ (F := F)) (sep_elim_left.trans (hu₀ (In m))) (hmain m ρ) (fq m) (hfin m) (QC m) (fun _ h hz => ⟨h, hz⟩)

end Cert.Proof.Sc

end
-- ==== Proof.Equal.lean ====
/-
  The two programs compute one value. The reference's result read at a row and a column is, of the indices equal to
  the column, the last one's entry of the linear layer, and the dense array's own entry when there is none; the
  kernel's result read there is the same, with the bias added first instead of last. At the ideal values addition is
  commutative and associative, so the two agree with nothing asked of the floats.
-/
module

public import proofs.«01_k».proof.Proof.Launch
public import proofs.«01_k».proof.Proof.Gen.ReferenceIdeal.Run
public import proofs.«01_k».proof.Proof.Gen.Pre_nonneg
public import Idealize.ShloMosaic.Lib.Routing.Ops
public import Idealize.ShloMosaic.Lib.Routing.OpsPair
public import Idealize.ShloMosaic.Lib.StackMember
public import Idealize.ShloMosaic.Lib.ReduceAll
public import Idealize.ShloMosaic.Lib.WordCmp

@[expose] public section

noncomputable section

namespace Cert.Proof.Equal

open Cert.ReferenceIdeal Cert.ReferenceIdeal.Gen
open Idealize.ShloMosaic Idealize.ShloMosaic.ValueIdx Idealize.ShloMosaic.Routing

/-! ## The reference's scatter -/

/-- Update `(a, j)` lands at `(r, c)` exactly when it is of row `r` and index `j`, read signed, is `c`. -/
theorem lands (idx : S5x1.Idx → BitVec 32) (a j : Fin 5) (r : Fin 5) (c : Fin 20) :
    scatter_S5x20_S5x1_S5x5_0_1_1_1.resultIdx? (ix2 a j) idx = some (ix2 r c) ↔ a = r ∧ (idx (ix2 j 0)).toInt = c.val := by
  have h0 : scatter_S5x20_S5x1_S5x5_0_1_1_1.start (ix2 a j) idx 0 = 0 := rfl
  have w0 : scatter_S5x20_S5x1_S5x5_0_1_1_1.window (ix2 a j) 0 = a.val := rfl
  have w1 : scatter_S5x20_S5x1_S5x5_0_1_1_1.window (ix2 a j) 1 = 0 := rfl
  have h1 : scatter_S5x20_S5x1_S5x5_0_1_1_1.start (ix2 a j) idx 1 = (idx (ix2 j 0)).toInt := by
    refine congrArg (fun k => (idx k).toInt) (funext fun q => ?_)
    match q with
    | ⟨0, _⟩ => rfl
    | ⟨1, _⟩ => rfl
  rw [resultIdx?_ix2, h0, w0, h1, w1, Fin.ext_iff]
  omega

/-- A fold over the 25 positions of a 5×5 table that acts only in row `r` is the fold over that row. -/
theorem fold_row {α : Type} (r : Fin 5) (p : Fin 5 → Prop) [DecidablePred p] (v : Fin 5 → Fin 5 → α) (z : α) :
    (List.finRange 25).foldl (fun a n => if (⟨n.val / 5, by omega⟩ : Fin 5) = r ∧ p ⟨n.val % 5, by omega⟩ then v ⟨n.val / 5, by omega⟩ ⟨n.val % 5, by omega⟩ else a) z
      = (List.finRange 5).foldl (fun a j => if p j then v r j else a) z := by
  have e : List.finRange 25 = (List.finRange 5).flatMap fun i => (List.finRange 5).map fun j => (⟨5 * i.val + j.val, by omega⟩ : Fin 25) := by decide
  have row (i : Fin 5) (a : α) :
      ((List.finRange 5).map fun j => (⟨5 * i.val + j.val, by omega⟩ : Fin 25)).foldl
        (fun a n => if (⟨n.val / 5, by omega⟩ : Fin 5) = r ∧ p ⟨n.val % 5, by omega⟩ then v ⟨n.val / 5, by omega⟩ ⟨n.val % 5, by omega⟩ else a) a
        = if i = r then (List.finRange 5).foldl (fun a j => if p j then v r j else a) a else a := by
    rw [List.foldl_map]
    have q (j : Fin 5) : (⟨(5 * i.val + j.val) / 5, by omega⟩ : Fin 5) = i := Fin.ext (by show (5 * i.val + j.val) / 5 = i.val; omega)
    have s (j : Fin 5) : (⟨(5 * i.val + j.val) % 5, by omega⟩ : Fin 5) = j := Fin.ext (by show (5 * i.val + j.val) % 5 = j.val; omega)
    simp only [q, s]
    by_cases h : i = r
    · subst h; simp only [true_and, if_true]
    · simp only [h, false_and, if_false]; exact List.foldl_fixed _
  rw [e, List.foldl_flatMap]
  simp only [row]
  fin_cases r <;> simp [List.finRange_succ]

/-- The scatter read at row `r`, column `c`: of the indices that read `c`, the last one's update of row `r`. -/
theorem scatter_cols {α : Type} (x : S5x20.Idx → α) (idx : S5x1.Idx → BitVec 32) (u : S5x5.Idx → α) (r : Fin 5) (c : Fin 20) :
    Host.scatter scatter_S5x20_S5x1_S5x5_0_1_1_1 (fun _ b => b) x idx u (ix2 r c)
      = (List.finRange 5).foldl (fun a j => if (idx (ix2 j 0)).toInt = c.val then u (ix2 r j) else a) (x (ix2 r c)) := by
  rw [scatter_at, ← fold_row r (fun j => (idx (ix2 j 0)).toInt = c.val) (fun a j => u (ix2 a j))]
  show (List.finRange 25).foldl _ _ = _
  refine congrArg (fun f => (List.finRange 25).foldl f (x (ix2 r c))) (funext fun a => funext fun n => ?_)
  have : n.val < 25 := n.isLt
  rw [symm22 (A := 5) (B := 5) n (by omega) (by omega)]
  exact if_congr (lands ..) rfl rfl

/-! ## The reference's linear layer and its indices -/

/-- Entry `(i, j)` of the reference's linear layer: the sum of the products, then the bias. -/
theorem layer (x w : FVec Ideal S5x5 .f32) (b : FVec Ideal S5 .f32) (i j : Fin 5) :
    addf (Host.dotGeneral dot_S5x5_S5x5_S5x5_1_0_0_1_n_n none x (transpose S5x5 [1, 0] w transposes_S5x5_S5x5_1_0))
        (broadcastInDim S5x5 ![0, 1] bcast_S1x5_S5x5_0_1 (broadcastInDim S1x5 ![1] bcast_S5_S1x5_1 b)) (ix2 i j)
      = (∑ k : Fin 5, x (ix2 i k) * w (ix2 j k)) + b (ix1 j) := by
  show Host.dotGeneral (DotDims.plain 5 5 5) none x _ (ix2 i j) + _ = _
  rw [StackMember.dotGeneral_plain_apply, bcCols (n := 5) (m := 5)]
  refine congrArg (· + b (ix1 j)) (Finset.sum_congr rfl fun k _ => congrArg (x (ix2 i k) * ·) ?_)
  exact transpose_apply _ _ _ _ (ix2 j k) fun q => by fin_cases q <;> rfl

/-- The reference's index word `j`: an index that is not negative is taken as it is. -/
theorem word (idx : S5.Idx → BitVec 32) (j : Fin 5) (h : (idx (ix1 j)).toNat < 2 ^ 31) :
    broadcastInDim S5x1 ![0] bcast_S5_S5x1_0 (select (cmpi .slt idx (broadcastInDim S5 ![] bcast_S_S5 (constantI S_ 32 0#32)))
      (addi idx (broadcastInDim S5 ![] bcast_S_S5 (constantI S_ 32 20#32))) idx) (ix2 j 0) = idx (ix1 j) := by
  rw [bcCol (n := 5)]
  exact wrap_of_lt _ _ h

/-! ## The kernel's result -/

/-- A word of 32 bits is the number `c`, below 20, exactly when it reads `c` signed. -/
theorem eq_col (v : BitVec 32) (c : ℕ) (hc : c < 20) : BitVec.ofNat 32 c = v ↔ v.toInt = c := by
  rw [BitVec.toInt_eq_toNat_cond, ← BitVec.toNat_inj, BitVec.toNat_ofNat]
  have := v.isLt
  split <;> omega

/-- What the kernel places at column `c`, as a fold over the five indices. -/
theorem place_fold {F : FTy → Type} (idx : S5.Idx → BitVec 32) (y : Fin 5 → F .f32) (c : ℕ) (hc : c < 20) (z : F .f32) :
    Sc.place idx y (BitVec.ofNat 32 c) z
      = (List.finRange 5).foldl (fun a j => if (idx (ix1 j)).toInt = c then y j else a) z := by
  have s (j : Fin 5) (r : F .f32) :
      Scalar.select (IntOp.cmpi .eq (BitVec.ofNat 32 c) (idx (Sc.ln j))) (y j) r = if (idx (ix1 j)).toInt = c then y j else r := by
    rw [WordCmp.cmpi_eq_eq, WordCmp.select_decide, show (Sc.ln j : S5.Idx) = ix1 j from Sc.idx1_ext rfl]
    exact if_congr (eq_col _ c hc) rfl rfl
  simp only [Sc.place, s]
  simp [List.finRange_succ]

/-- A 5×5 array flattened, read at `5 i + k`. -/
theorem flat {α : Type} (x : S5x5.Idx → α) (h) (i k : Fin 5) (q : Fin 25) (hq : q.val = 5 * i.val + k.val) :
    shapeCast Cert.KernelIdeal.S25 x h (Sc.ln q) = x (ix2 i k) :=
  shapeCast_apply x h _ _ (by
    rw [Shape.rowMajor_val_two, Shape.rowMajor_val_one]
    show i.val * 5 + k.val = q.val
    omega)

/-- The kernel's linear layer is the reference's: addition at the ideal values does not depend on its order. -/
theorem lin_eq (x w : FVec Ideal S5x5 .f32) (b : FVec Ideal S5 .f32) (h h') (i j : Fin 5) :
    Sc.lin (F := Ideal) (shapeCast Cert.KernelIdeal.S25 x h) (shapeCast Cert.KernelIdeal.S25 w h') b i j
      = (∑ k : Fin 5, x (ix2 i k) * w (ix2 j k)) + b (ix1 j) := by
  simp only [Sc.lin, Sc.at1, Ideal.addf_def, Ideal.mulf_def]
  rw [flat x h i 0 _ rfl, flat x h i 1 _ rfl, flat x h i 2 _ rfl, flat x h i 3 _ rfl, flat x h i 4 _ rfl,
    flat w h' j 0 _ rfl, flat w h' j 1 _ rfl, flat w h' j 2 _ rfl, flat w h' j 3 _ rfl, flat w h' j 4 _ rfl,
    show (Sc.ln j : S5.Idx) = ix1 j from Sc.idx1_ext rfl, Fin.sum_univ_five]
  abel

/-- The kernel's result read at row `r`, column `c`. -/
theorem out_at {F : FTy → Type} [FloatOps F] (I : Sc.Ins F) (h) (o : S5x20.Idx → F .f32) (h') (ho : I.o = shapeCast Cert.KernelIdeal.S100 o h')
    (r : Fin 5) (c : Fin 20) :
    shapeCast S5x20 I.z h (ix2 r c) = Sc.place I.i (Sc.lin I.x I.w I.b r) (BitVec.ofNat 32 c.val) (o (ix2 r c)) := by
  have e : shapeCast S5x20 I.z h (ix2 r c) = I.z (Sc.ln ⟨20 * r.val + c.val, by omega⟩) := shapeCast_apply _ h _ _ (by
    rw [Shape.rowMajor_val_two, Shape.rowMajor_val_one]
    show 20 * r.val + c.val = r.val * 20 + c.val
    omega)
  have f : I.o (Sc.ln ⟨20 * r.val + c.val, by omega⟩) = o (ix2 r c) := by
    rw [ho]
    exact shapeCast_apply _ h' _ _ (by
      rw [Shape.rowMajor_val_two, Shape.rowMajor_val_one]
      show r.val * 20 + c.val = 20 * r.val + c.val
      omega)
  rw [e, Sc.z_row I r c.val c.isLt _ rfl, f]

/-! ## The two agree -/

/-- The precondition, read: no index is negative. -/
theorem word_of_pre (x w : FVec Ideal S5x5 .f32) (b : FVec Ideal S5 .f32) (o : FVec Ideal S5x20 .f32) (idx : S5.Idx → BitVec 32)
    (h : Cert.Pre_nonneg.fn (F := Ideal) x idx w b o = fun _ => 1#1) (j : Fin 5) : (idx (ix1 j)).toNat < 2 ^ 31 := by
  have e := Host.reduce_andi_all _ _ _ _ ix0 (congrFun h ix0) (ix1 j)
  have e' : IntOp.cmpi .sge (idx (ix1 j)) 0#32 = 1#1 := e
  rw [WordCmp.cmpi_sge_zero, WordCmp.ofBool_decide_eq_one_iff] at e'
  exact e'

/-- The reference's result as a term of its arguments. -/
abbrev refOut (x w : FVec Ideal S5x5 .f32) (b : FVec Ideal S5 .f32) (idx : S5.Idx → BitVec 32) (o : FVec Ideal S5x20 .f32) : FVec Ideal S5x20 .f32 :=
  Host.scatter scatter_S5x20_S5x1_S5x5_0_1_1_1 (fun _ b => b) o
    (broadcastInDim S5x1 ![0] bcast_S5_S5x1_0 (select (cmpi .slt idx (broadcastInDim S5 ![] bcast_S_S5 (constantI S_ 32 0#32)))
      (addi idx (broadcastInDim S5 ![] bcast_S_S5 (constantI S_ 32 20#32))) idx))
    (addf (Host.dotGeneral dot_S5x5_S5x5_S5x5_1_0_0_1_n_n none x (transpose S5x5 [1, 0] w transposes_S5x5_S5x5_1_0))
      (broadcastInDim S5x5 ![0, 1] bcast_S1x5_S5x5_0_1 (broadcastInDim S1x5 ![1] bcast_S5_S1x5_1 b)))

/-- Where no index is negative, the kernel's result is the reference's. -/
theorem out_eq (x w : FVec Ideal S5x5 .f32) (b : FVec Ideal S5 .f32) (idx : S5.Idx → BitVec 32) (o : FVec Ideal S5x20 .f32)
    (hidx : ∀ j : Fin 5, (idx (ix1 j)).toNat < 2 ^ 31) (hx hw ho hz) :
    shapeCast S5x20 (Sc.Ins.z (F := Ideal) ⟨shapeCast Cert.KernelIdeal.S25 x hx, shapeCast Cert.KernelIdeal.S25 w hw, b, idx,
      shapeCast Cert.KernelIdeal.S100 o ho⟩) hz = refOut x w b idx o := by
  funext p
  obtain ⟨r, c, rfl⟩ : ∃ (r : Fin 5) (c : Fin 20), p = ix2 r c := ⟨p 0, p 1, eq_ix2 p⟩
  rw [out_at _ hz o ho rfl, place_fold _ _ _ c.isLt]
  refine Eq.trans ?_ (scatter_cols ..).symm
  refine congrArg (fun f => (List.finRange 5).foldl f (o (ix2 r c))) (funext fun a => funext fun j => ?_)
  rw [word idx j (hidx j), layer]
  exact if_congr Iff.rfl (lin_eq ..) rfl

end Cert.Proof.Equal

end
-- ==== Proof.lean ====
/-
  The claims about the SparseCore kernel `y = x @ W.T + b; z = other.at[:, indices].set(y)`, proved.
  Proof/Setup.lean has the set-up of the launch and the kernel's value, Proof/Value.lean the lanes of its vectors,
  Proof/Tile.lean the run of one tile, Proof/Launch.lean the run of the whole program, Proof/Equal.lean the equality
  of the program's value with the reference's. Here each claim is read off those.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_nonneg
public import proofs.«01_k».proof.Proof.Launch
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the machine's floats: every run ends, its arguments unchanged and its semaphores at zero. The run is
    written once over any float values; the program's text is the same at both. -/
theorem frame_kernel : Cert.quiescent_Kernel := fun m ρ _ =>
  (θ_run Cert.KernelIdeal.defs _ _).mono (fun _ h => ⟨fun c => (h.1 c).2, h.2⟩) (Sc.run_main (F := Bits) m ρ)

/-- The kernel at the ideal values: every run ends, its arguments unchanged and its semaphores at zero. -/
theorem frame_ideal : Cert.quiescent_KernelIdeal := fun m ρ _ =>
  (θ_run Cert.KernelIdeal.defs _ _).mono (fun _ h => ⟨fun c => (h.1 c).2, h.2⟩) (Sc.run_main (F := Ideal) m ρ)

/-- The same where no index is negative. -/
theorem frame_ideal_nonneg : Cert.quiescent_KernelIdeal_pre_nonneg := fun m ρ _ => frame_ideal m ρ trivial

/-- The reference at the ideal values: every run ends, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where no index is negative. -/
theorem frame_reference_nonneg : Cert.quiescent_ReferenceIdeal_pre_nonneg := fun m ρ _ => frame_reference m ρ trivial

/-- Where no index is negative, the kernel and the reference end with one result on every device, at the ideal values. -/
theorem agree : Cert.algebraic_KernelIdeal_ReferenceIdeal_pre_nonneg := by
  intro m ρ m' ρ' hpre hargs
  refine ⟨fun c => Sc.Out m c, (θ_run Cert.KernelIdeal.defs _ _).mono (fun _ h c => h.1 c) (Sc.run_main (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4⟩ := hargs c
  rw [h0, h1, h2, h3, h4]
  exact (Equal.out_eq _ _ _ _ _ (fun j => Equal.word_of_pre _ _ _ _ _ (hpre c) j) _ _ _ _).symm

/-- Every claim. -/
theorem claim : Cert.Claim :=
  ⟨Cert.Kernel.Gen.facts, Cert.KernelIdeal.Gen.facts, Cert.ReferenceIdeal.Gen.facts, Cert.Pre_nonneg.Gen.facts,
    frame_kernel, frame_ideal, frame_ideal_nonneg, frame_reference, frame_reference_nonneg, trivial, agree⟩

end Cert.Proof

end
